-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_logits [hPre_nonnegative_logits : Cert.Pre_nonnegative_logits.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_logits [hPre_nonnegative_logits : Cert.Pre_nonnegative_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonnegative_logits [hKernelIdeal : Cert.KernelIdeal.Facts] [hPre_nonnegative_logits : Cert.Pre_nonnegative_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonnegative_logits [hReferenceIdeal : Cert.ReferenceIdeal.Facts] [hPre_nonnegative_logits : Cert.Pre_nonnegative_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonnegative_logits [hKernelIdeal : Cert.KernelIdeal.Facts] [hReferenceIdeal : Cert.ReferenceIdeal.Facts] [hPre_nonnegative_logits : Cert.Pre_nonnegative_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonnegative_logits : Cert.Pre_nonnegative_logits.Facts),
    quiescent_Kernel (hKernel := hKernel)
    ∧ quiescent_KernelIdeal (hKernelIdeal := hKernelIdeal)
    ∧ quiescent_KernelIdeal_pre_nonnegative_logits (hKernelIdeal := hKernelIdeal) (hPre_nonnegative_logits := hPre_nonnegative_logits)
    ∧ quiescent_ReferenceIdeal (hReferenceIdeal := hReferenceIdeal)
    ∧ quiescent_ReferenceIdeal_pre_nonnegative_logits (hReferenceIdeal := hReferenceIdeal) (hPre_nonnegative_logits := hPre_nonnegative_logits)
    ∧ preserves_Kernel_KernelIdeal
    ∧ algebraic_KernelIdeal_ReferenceIdeal_pre_nonnegative_logits (hKernelIdeal := hKernelIdeal) (hReferenceIdeal := hReferenceIdeal) (hPre_nonnegative_logits := hPre_nonnegative_logits)
-- ==== Pre_nonnegative_logits.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_cst : FVec F S_ .f32 := constant S_ .f32 0x00000000#32
  let main_v0 : FVec F S128x100000 .f32 := broadcastInDim S128x100000 ![] bcast_S_S128x100000 main_cst
  let main_v1 : IVec S128x100000 1 := cmpf .oge main_arg0 main_v0
  let main_cst_0 : FVec F S_ .f32 := constant S_ .f32 0x7F800000#32
  let main_v2 : FVec F S128x100000 .f32 := broadcastInDim S128x100000 ![] bcast_S_S128x100000 main_cst_0
  let main_v3 : IVec S128x100000 1 := cmpf .olt main_arg0 main_v2
  let main_v4 : IVec S128x100000 1 := andi main_v1 main_v3
  let main_c : IVec S_ 1 := constantI S_ 1 1#1
  let main_v5 : IVec S_ 1 := (fun x v => Host.reduce IntOp.andi x v reducesTo_S128x100000_S_d0_1 h_S_) main_v4 main_c
  main_v5
-- ==== Kernel.lean ====
abbrev S128x100000 : Shape := ⟨2, ![128, 100000]⟩
abbrev S128x128 : Shape := ⟨2, ![128, 128]⟩
abbrev S8x100000 : Shape := ⟨2, ![8, 100000]⟩
abbrev S8x128 : Shape := ⟨2, ![8, 128]⟩
abbrev S8 : Shape := ⟨1, ![8]⟩
abbrev S8x1 : Shape := ⟨2, ![8, 1]⟩
abbrev S128x1 : Shape := ⟨2, ![128, 1]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S128, .f32⟩
  | .hbm, ⟨6, _⟩ => ⟨S128x1, .f32⟩
  | .hbm, ⟨7, _⟩ => ⟨S128, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128, .f32⟩
  | .hbm, ⟨4, _⟩ => ⟨S128x1, .f32⟩
  | .hbm, ⟨5, _⟩ => ⟨S128x100000, .f32⟩
  | .hbm, ⟨6, _⟩ => ⟨S128x100000, .f32⟩
  | .hbm, ⟨7, _⟩ => ⟨S128x100000, .f32⟩
  | .hbm, ⟨8, _⟩ => ⟨S128x100000, .i32⟩
  | .hbm, ⟨9, _⟩ => ⟨S_, .f32⟩
  | .hbm, ⟨10, _⟩ => ⟨S_, .i32⟩
  | .hbm, ⟨11, _⟩ => ⟨S128, .f32⟩
  | .hbm, ⟨12, _⟩ => ⟨S128, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i1⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x1, .i32⟩
  | .hbm, ⟨21, _⟩ => ⟨S128x1x1, .i32⟩
  | .hbm, ⟨22, _⟩ => ⟨S1, .i32⟩
  | .hbm, ⟨23, _⟩ => ⟨S_, .i32⟩
  | .hbm, ⟨24, _⟩ => ⟨S128x1x1, .i32⟩
  | .hbm, ⟨25, _⟩ => ⟨S128x1x1, .i1⟩
  | .hbm, ⟨26, _⟩ => ⟨S1x1x1, .i32⟩
  | .hbm, ⟨27, _⟩ => ⟨S128x1x1, .i32⟩
  | .hbm, ⟨28, _⟩ => ⟨S128x1x1, .i1⟩
  | .hbm, ⟨29, _⟩ => ⟨S128x1x1, .i1⟩
  | .hbm, ⟨30, _⟩ => ⟨S_, .i1⟩
  | .hbm, ⟨31, _⟩ => ⟨S128x1, .i1⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128, .f32⟩
  | .hbm, ⟨37, _⟩ => ⟨S128x100000, .f32⟩
  | .hbm, ⟨38, _⟩ => ⟨S_, .f32⟩
  | .hbm, ⟨39, _⟩ => ⟨S128, .f32⟩
  | .hbm, ⟨40, _⟩ => ⟨S128, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Lib.Claim
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem

namespace Cert.ReferenceIdeal.Row
open Cert.ReferenceIdeal

/-- Every entry over its row's sum: the row taken as a distribution. -/
def share (l : FVec Ideal S128x100000 .f32) : FVec Ideal S128x100000 .f32 :=
  Host.divf l (broadcastInDim S128x100000 ![0, 1] Facts₀.bcast_S128x1_S128x100000_0_1
    (broadcastInDim S128x1 ![0] Facts₀.bcast_S128_S128x1_0
      (Host.reduceAdd l (constant S_ .f32 0x00000000#32) Facts₀.reducesTo_S128x100000_S128_d1 Facts₀.h_S_)))

/-- The second components of an array of pairs. -/
def second {t : Shape} (f : t.Idx → EReal × BitVec 32) : IVec t 32 := fun j => (f j).2

/-- The place of each row's first largest output. -/
def place (o : FVec Ideal S128x100000 .f32) : IVec S128 32 :=
  second (Host.argReduce reducer_argmax_f32_i32 o (iotaInDim S128x100000 32 1) (constant S_ .f32 0xFF800000#32)
    (constantI S_ 32 0#32) Facts₀.reducesTo_S128x100000_S128_d1 Facts₀.h_S_)

/-- The place as a column, -/
def col (p : IVec S128 32) : IVec S128x1 32 := broadcastInDim S128x1 ![0] Facts₀.bcast_S128_S128x1_0 p

/-- a negative one counted from the row's end. -/
def wrapped (i : IVec S128x1 32) : IVec S128x1x1 32 :=
  shapeCast S128x1x1 (select (cmpi .slt i (broadcastInDim S128x1 ![] Facts₀.bcast_S_S128x1 (constantI S_ 32 0#32)))
    (addi i (broadcastInDim S128x1 ![] Facts₀.bcast_S_S128x1 (constantI S_ 32 100000#32))) i) Facts₀.shapeCasts_S128x1_S128x1x1

/-- Which places lie in the row. -/
def inside (w : IVec S128x1x1 32) : IVec S128x1 1 :=
  Host.reduce IntOp.andi (andi (cmpi .sge w (broadcastInDim S128x1x1 ![] Facts₀.bcast_S_S128x1x1 (constantI S_ 32 0#32)))
    (cmpi .sle w (broadcastInDim S128x1x1 ![0, 1, 2] Facts₀.bcast_S1x1x1_S128x1x1_0_1_2
      (broadcastInDim S1x1x1 ![2] Facts₀.bcast_S1_S1x1x1_2 (constantI S1 32 99999#32)))))
    (constantI S_ 1 1#1) Facts₀.reducesTo_S128x1x1_S128x1_d2 Facts₀.h_S_

/-- The reference's first result: the logarithm of the share at the place of the row's first largest output. -/
def alp (l o : FVec Ideal S128x100000 .f32) : FVec Ideal S128 .f32 :=
  shapeCast S128 (select (inside (wrapped (col (place o))))
    (Host.gather gather_S128x100000_S128x1x1_S128x1_n_1_0_0_1_2_11 (Host.log (share l)) (wrapped (col (place o))))
    (broadcastInDim S128x1 ![] Facts₀.bcast_S_S128x1 (constant (F := Ideal) S_ .f32 0x7FC00000#32))) Facts₀.shapeCasts_S128x1_S128

/-- The reference's second result: the entropy of each row's shares. -/
def ent (l : FVec Ideal S128x100000 .f32) : FVec Ideal S128 .f32 :=
  Host.negf (Host.reduceAdd (mulf (share l) (Host.log (share l))) (constant S_ .f32 0x00000000#32)
    Facts₀.reducesTo_S128x100000_S128_d1 Facts₀.h_S_)

/-- The reference runs and leaves those two results. -/
theorem run (m : (ℓ : Loc nD τ sig) → Buf (Elt Ideal) ℓ) (g : Dev nD → PrngReg) :
  θ_run (defs (F := Ideal)) (onTc (τ := τ) (main (F := Ideal))) ⟨m, fun _ => 0, g⟩ (fun r => ∀ c : Dev nD,
          r.2.mem ((c.tc : Thread nD τ).loc main_v8) = alp (m ((c.tc : Thread nD τ).loc main_arg0)) (m ((c.tc : Thread nD τ).loc main_arg1))
          ∧ r.2.mem ((c.tc : Thread nD τ).loc main_v11) = ent (m ((c.tc : Thread nD τ).loc main_arg0))
          ∧ r.2.mem ((c.tc : Thread nD τ).loc main_arg0) = m ((c.tc : Thread nD τ).loc main_arg0)
          ∧ r.2.mem ((c.tc : Thread nD τ).loc main_arg1) = m ((c.tc : Thread nD τ).loc main_arg1)) := by
  hlo_run
  case refine_2.refine_1 => unfold ent share; rfl
  simp -implicitDefEqProofs only [StableHlo.TRef.toBuf, StableHlo.TRef.ofBuf, cast_cast, cast_eq]
  unfold alp inside wrapped col place second share
  clean_types
  rfl

/-- The reference runs, its arguments end unchanged and every semaphore counter is back at zero. -/
theorem quiescent (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (run m g)

end Cert.ReferenceIdeal.Row
-- ==== Proof.Rows.lean ====
module

public import Idealize.ShloMosaic.PureOps.Ideal
public import Idealize.ShloMosaic.Lib.Pointwise

/-! The mathematics of one row: a row `l` of real numbers none of which is negative, and a row `o` of extended reals whose first largest entry
    is looked for. Nothing of a program is mentioned here. -/

@[expose] public section

noncomputable section

namespace Cert.Rows

open Idealize.ShloMosaic

/-! ## The first largest entry -/

/-- `a` is the place of the first largest entry of `o`: no entry is larger, and every earlier one is smaller. -/
def FirstMax {n : ℕ} (o : Fin n → EReal) (a : Fin n) : Prop :=
  (∀ k, o k ≤ o a) ∧ ∀ k, k < a → o k < o a

/-- A row with at least one entry has a first largest one. -/
theorem exists_firstMax {n : ℕ} (hn : 0 < n) (o : Fin n → EReal) : ∃ a, FirstMax o a := by
  haveI : Nonempty (Fin n) := ⟨⟨0, hn⟩⟩
  obtain ⟨b, hb⟩ := Finite.exists_max o
  haveI : Nonempty {k : Fin n // o k = o b} := ⟨⟨b, rfl⟩⟩
  obtain ⟨a, ha⟩ := Finite.exists_min (fun k : {k : Fin n // o k = o b} => k.1)
  refine ⟨a.1, fun k => le_of_le_of_eq (hb k) a.2.symm, fun k hk => ?_⟩
  rcases lt_or_eq_of_le (hb k) with h | h
  · rw [a.2]; exact h
  · exact absurd hk (not_lt.2 (ha ⟨k, h⟩))

/-- There is only one. -/
theorem FirstMax.unique {n : ℕ} {o : Fin n → EReal} {a b : Fin n} (ha : FirstMax o a) (hb : FirstMax o b) : a = b := by
  rcases lt_trichotomy a b with h | h | h
  · exact absurd (hb.2 a h) (not_lt.2 (ha.1 b))
  · exact h
  · exact absurd (ha.2 b h) (not_lt.2 (hb.1 a))

/-- The running maximum from −∞ over the whole row is the largest entry. -/
theorem fold_max {n : ℕ} {o : Fin n → EReal} {a : Fin n} (ha : FirstMax o a) :
    Finset.fold max ⊥ o Finset.univ = o a := by
  apply le_antisymm
  · exact (Finset.fold_max_le _).2 ⟨bot_le, fun k _ => ha.1 k⟩
  · exact (Finset.le_fold_max _).2 (.inr ⟨a, Finset.mem_univ _, le_rfl⟩)

/-- The least of two words, read as an integer. -/
theorem toInt_minsi (x y : BitVec 32) : (IntOp.minsi x y).toInt = min x.toInt y.toInt := by
  unfold IntOp.minsi
  simp only [BitVec.slt_eq_decide, decide_eq_true_eq]
  split <;> omega

/-- The smallest of a family of signed words, `b` among them, is any `c` of them that is at most every other. -/
theorem fold_minsi {n : ℕ} (b c : BitVec 32) (f : Fin n → BitVec 32) (hb : c.toInt ≤ b.toInt)
    (h : ∀ k, c.toInt ≤ (f k).toInt) (a : Fin n) (ha : f a = c) :
    Finset.fold IntOp.minsi b f Finset.univ = c := by
  apply BitVec.eq_of_toInt_eq
  apply le_antisymm
  · refine (Finset.fold_op_rel_iff_or (op := IntOp.minsi) (r := fun c y : BitVec 32 => y.toInt ≤ c.toInt) ?_).2
      (.inr ⟨a, Finset.mem_univ _, by rw [ha]⟩)
    intro x y z; rw [toInt_minsi]; exact min_le_iff
  · refine (Finset.fold_op_rel_iff_and (op := IntOp.minsi) (r := fun c y : BitVec 32 => c.toInt ≤ y.toInt) ?_).2
      ⟨hb, fun k _ => h k⟩
    intro x y z; rw [toInt_minsi]; exact le_min_iff

/-- A natural number below 2³¹ is its word, read signed. -/
theorem toInt_ofNat {k : ℕ} (hk : k < 2 ^ 31) : (BitVec.ofNat 32 k).toInt = k := by
  rw [BitVec.toInt_eq_toNat_cond, BitVec.toNat_ofNat, Nat.mod_eq_of_lt (by omega)]
  split <;> omega

/-- Two different numbers below 2³² have different words. -/
theorem ofNat_inj {j k : ℕ} (hj : j < 2 ^ 32) (hk : k < 2 ^ 32) (h : BitVec.ofNat 32 j = BitVec.ofNat 32 k) : j = k := by
  have := congrArg BitVec.toNat h
  rwa [BitVec.toNat_ofNat, BitVec.toNat_ofNat, Nat.mod_eq_of_lt hj, Nat.mod_eq_of_lt hk] at this

/-- The smallest place that holds the row's largest entry, the words 2³⁰ and 2³¹ − 1 standing for «no place», is the place of
    the first largest entry. -/
theorem fold_minsi_firstMax {n : ℕ} (hn : n ≤ 2 ^ 30) {o : Fin n → EReal} {a : Fin n} (ha : FirstMax o a) :
    Finset.fold IntOp.minsi (2147483647#32) (fun x => if o x = o a then BitVec.ofNat 32 ↑x else 1073741824#32) Finset.univ
      = BitVec.ofNat 32 ↑a := by
  have hA : (BitVec.ofNat 32 ↑a).toInt = (a : ℕ) := toInt_ofNat (by have := a.2; omega)
  refine fold_minsi _ _ _ ?_ ?_ a (if_pos rfl)
  · rw [hA, show (2147483647#32).toInt = 2147483647 from rfl]; have := a.2; omega
  · intro k
    beta_reduce
    split
    · rename_i hk
      rw [hA, toInt_ofNat (by have := k.2; omega)]
      have : ¬ k < a := fun h => absurd hk (ne_of_lt (ha.2 k h))
      have : a ≤ k := not_lt.1 this
      exact_mod_cast this
    · rw [hA, show (1073741824#32).toInt = 1073741824 from rfl]; have := a.2; omega

/-- The sum that keeps only the entry whose place is `a` is that entry. -/
theorem sum_select {n : ℕ} (hn : n ≤ 2 ^ 30) (l : Fin n → EReal) (a : Fin n) :
    (∑ x : Fin n, Scalar.select (IntOp.cmpi CmpIPredicate.eq (BitVec.ofNat 32 ↑x) (BitVec.ofNat 32 ↑a)) (l x) 0) = l a := by
  rw [Finset.sum_eq_single a]
  · simp [IntOp.cmpi, Scalar.select]
  · intro b _ hb
    have : BitVec.ofNat 32 ↑b ≠ BitVec.ofNat 32 (↑a : ℕ) := fun h =>
      hb (Fin.ext (ofNat_inj (by have := b.2; omega) (by have := a.2; omega) h))
    have h2 : (BitVec.ofNat 32 ↑b == BitVec.ofNat 32 (↑a : ℕ)) = false := by simpa using this
    simp [IntOp.cmpi, Scalar.select, h2]
  · exact fun h => absurd (Finset.mem_univ _) h

/-! ## Logarithms and sums of real numbers that are not negative -/

/-- Every entry of `l` is a real number and none is negative. -/
def Nonneg {n : ℕ} (l : Fin n → EReal) : Prop := ∀ k, ∃ r : ℝ, 0 ≤ r ∧ l k = (r : EReal)

/-- What an entry that is at least 0 and less than +∞ is. -/
theorem exists_real {x : EReal} (h0 : 0 ≤ x) (ht : x < ⊤) : ∃ r : ℝ, 0 ≤ r ∧ x = (r : EReal) := by
  induction x using EReal.rec with
  | bot => exact absurd h0 (by simp)
  | coe r => exact ⟨r, by exact_mod_cast h0, rfl⟩
  | top => exact absurd ht (lt_irrefl _)

/-- A sum of real numbers taken among the extended reals. -/
theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- The logarithm of a positive real number, -/
theorem log_coe {r : ℝ} (hr : 0 < r) : Ideal.log (r : EReal) = ((Real.log r : ℝ) : EReal) := by
  show (if r ≤ 0 then (⊥ : EReal) else ((Real.log r : ℝ) : EReal)) = _
  rw [if_neg (not_le.2 hr)]

/-- of zero, -/
theorem log_zero : Ideal.log 0 = ⊥ := by
  show (if (0 : ℝ) ≤ 0 then (⊥ : EReal) else ((Real.log 0 : ℝ) : EReal)) = _
  rw [if_pos le_rfl]

/-- and times the number itself, which at zero is zero. -/
theorem mul_log_coe {r : ℝ} (hr : 0 ≤ r) : (r : EReal) * Ideal.log (r : EReal) = ((r * Real.log r : ℝ) : EReal) := by
  rcases hr.eq_or_lt with rfl | h
  · simp
  · rw [log_coe h, ← EReal.coe_mul]

/-- The quotient of a real number by a positive one, -/
theorem div_coe' {r s : ℝ} (hs : 0 < s) : Ideal.div (r : EReal) (s : EReal) = ((r / s : ℝ) : EReal) := by
  rw [Ideal.div_coe (ne_of_gt hs), ← EReal.coe_mul, mul_one_div]

/-- and of zero by zero, as the ideal floats have it. -/
theorem div_zero_zero : Ideal.div 0 0 = ⊥ := by
  unfold Ideal.div
  rw [if_pos rfl, if_neg (lt_irrefl _)]

/-- The logarithm of a row's entry over the row's sum is the difference of the two logarithms. -/
theorem log_share {n : ℕ} {l : Fin n → EReal} (hl : Nonneg l) (a : Fin n) :
    Ideal.log (Ideal.div (l a) (∑ x, l x)) = Ideal.log (l a) - Ideal.log (∑ x, l x) := by
  choose r hr hrl using hl
  have hS : (∑ x, l x) = ((∑ x, r x : ℝ) : EReal) := by rw [← coe_sum]; exact Finset.sum_congr rfl fun x _ => hrl x
  have has : r a ≤ ∑ x, r x := Finset.single_le_sum (fun x _ => hr x) (Finset.mem_univ a)
  rw [hS, hrl a]
  rcases (hr a).eq_or_lt with h0 | h0
  · rw [← h0, EReal.coe_zero, log_zero, EReal.bot_sub]
    rcases (Finset.sum_nonneg fun x _ => hr x : 0 ≤ ∑ x, r x).eq_or_lt with hs | hs
    · rw [← hs, EReal.coe_zero, div_zero_zero]; rfl
    · rw [← EReal.coe_zero, div_coe' hs, zero_div, EReal.coe_zero, log_zero]
  · have hs : 0 < ∑ x, r x := lt_of_lt_of_le h0 has
    rw [div_coe' hs, log_coe (div_pos h0 hs), log_coe h0, log_coe hs,
      Real.log_div (ne_of_gt h0) (ne_of_gt hs), EReal.coe_sub]

/-- The entropy of a row taken as a distribution, from the row's sum `s` and its sum of `l · log l`: minus the sum of
    `p · log p` over the shares `p = l / s` is `log s − (∑ l · log l) / s`. In a row of zeros both are −∞. -/
theorem entropy {n : ℕ} (hn : 0 < n) {l : Fin n → EReal} (hl : Nonneg l) :
    -(∑ x, Ideal.div (l x) (∑ y, l y) * Ideal.log (Ideal.div (l x) (∑ y, l y)))
      = Ideal.log (∑ y, l y) - Ideal.div (∑ x, l x * Ideal.log (l x)) (∑ y, l y) := by
  choose r hr hrl using hl
  have hS : (∑ x, l x) = ((∑ x, r x : ℝ) : EReal) := by rw [← coe_sum]; exact Finset.sum_congr rfl fun x _ => hrl x
  rcases (Finset.sum_nonneg fun x _ => hr x : 0 ≤ ∑ x, r x).eq_or_lt with hs | hs
  · have h0 : ∀ x, l x = 0 := fun x => by
      rw [hrl x, (Finset.sum_eq_zero_iff_of_nonneg fun x _ => hr x).1 hs.symm x (Finset.mem_univ x), EReal.coe_zero]
    rw [hS, ← hs, EReal.coe_zero, log_zero, EReal.bot_sub]
    have h1 : ∀ x, Ideal.div (l x) 0 * Ideal.log (Ideal.div (l x) 0) = ⊤ := fun x => by
      rw [h0 x, div_zero_zero]; exact EReal.bot_mul_bot
    rw [Finset.sum_congr rfl fun x _ => h1 x, ← Finset.add_sum_erase _ _ (Finset.mem_univ (⟨0, hn⟩ : Fin n)),
      EReal.top_add_of_ne_bot, EReal.neg_top]
    exact ne_of_gt (lt_of_lt_of_le EReal.bot_lt_zero (Finset.sum_nonneg fun _ _ => le_top))
  have hp : ∀ x, 0 ≤ r x / (∑ y, r y) := fun x => div_nonneg (hr x) hs.le
  have h1 : ∀ x, Ideal.div (l x) (∑ y, l y) * Ideal.log (Ideal.div (l x) (∑ y, l y))
      = ((r x / (∑ y, r y) * Real.log (r x / (∑ y, r y)) : ℝ) : EReal) := by
    intro x
    rw [hS, hrl x, div_coe' hs, mul_log_coe (hp x)]
  have h2 : ∀ x, l x * Ideal.log (l x) = ((r x * Real.log (r x) : ℝ) : EReal) := by
    intro x; rw [hrl x, mul_log_coe (hr x)]
  rw [Finset.sum_congr rfl fun x _ => h1 x, Finset.sum_congr rfl fun x _ => h2 x, hS, coe_sum, coe_sum, log_coe hs, div_coe' hs,
    ← EReal.coe_neg, ← EReal.coe_sub]
  congr 1
  have h3 : ∀ x, r x / (∑ y, r y) * Real.log (r x / (∑ y, r y))
      = (r x * Real.log (r x)) / (∑ y, r y) - r x / (∑ y, r y) * Real.log (∑ y, r y) := by
    intro x
    rcases (hr x).eq_or_lt with h0 | h0
    · rw [← h0]; simp
    · rw [Real.log_div (ne_of_gt h0) (ne_of_gt hs)]; ring
  rw [Finset.sum_congr rfl fun x _ => h3 x, Finset.sum_sub_distrib, ← Finset.sum_div, ← Finset.sum_mul, ← Finset.sum_div,
    div_self (ne_of_gt hs)]
  ring

end Cert.Rows
-- ==== Proof.KerValue.lean ====
module

public import proofs.«01_k».proof.Defs
public import proofs.«01_k».proof.Proof.Gen.KernelIdeal.Frame
public import proofs.«01_k».proof.Proof.Gen.KernelIdeal.Points
public import proofs.«01_k».proof.Proof.Rows
public import Idealize.ShloMosaic.Lib.Pipeline.ValueKit
public import Idealize.ShloMosaic.Lib.Pointwise

/-! What the kernel's two result arrays hold after its sixteen blocks of eight rows, as functions of the argument arrays. -/

@[expose] public section

set_option maxRecDepth 16384

noncomputable section

namespace Cert.KernelIdeal.Row

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The blocks of every window at point `t` are the rows `8 t … 8 t + 7`. -/
theorem idx : ∀ t : Fin cfg0.N, win0_0.index t = ![t.val, 0] ∧ win0_1.index t = ![t.val, 0] ∧ win0_2.index t = ![t.val, 0]
    ∧ win0_3.index t = ![t.val, 0] := by decide +kernel

/-- The word the kernel finds in row `r`: the least place whose output is the row's largest. -/
def spot (o : FVec Ideal S128x100000 .f32) (r : Fin 128) : BitVec 32 :=
  Finset.fold IntOp.minsi (2147483647#32) (fun x : Fin 100000 =>
    if o (ix2 r x) = Finset.fold max (Ideal.ofBits .f32 4286578688#32) (fun x : Fin 100000 => o (ix2 r x)) Finset.univ
    then BitVec.ofNat 32 ↑x else 1073741824#32) Finset.univ

/-- The logarithm of the entry at that place, less that of the row's sum. -/
def alpRow (l o : FVec Ideal S128x100000 .f32) (r : Fin 128) : EReal :=
  Ideal.log (∑ x : Fin 100000, Scalar.select (IntOp.cmpi .eq (BitVec.ofNat 32 ↑x) (spot o r)) (l (ix2 r x)) 0)
    - Ideal.log (∑ x : Fin 100000, l (ix2 r x))

/-- The logarithm of the row's sum, less the sum of `x · log x` over it. -/
def entRow (l : FVec Ideal S128x100000 .f32) (r : Fin 128) : EReal :=
  Ideal.log (∑ x : Fin 100000, l (ix2 r x))
    - Ideal.div (∑ x : Fin 100000, l (ix2 r x) * Ideal.log (l (ix2 r x))) (∑ x : Fin 100000, l (ix2 r x))

/-- Block `t` of the logits: rows `8 t …` of the first argument. -/
theorem iblk0 (c : Dev nD) (t : Fin cfg0.N) (a : Fin 8) (x : Fin 100000) (r : Fin 128) (hr : r.val = t.val * 8 + a.val) :
    iblk m c 0 t (ix2 a x) = m ((c.tc : Thread nD τ).loc main_arg0) (ix2 r x) := by
  blk_ext [iblk, V, idx t]

/-- Block `t` of the outputs: rows `8 t …` of the second argument. -/
theorem iblk1 (c : Dev nD) (t : Fin cfg0.N) (a : Fin 8) (x : Fin 100000) (r : Fin 128) (hr : r.val = t.val * 8 + a.val) :
    iblk m c 1 t (ix2 a x) = m ((c.tc : Thread nD τ).loc main_arg1) (ix2 r x) := by
  blk_ext [iblk, V, idx t]

/-- The first result array: `alpRow` of its row in every lane. -/
theorem alp_arr (c : Dev nD) : (dats (F := Ideal) m 0 c).arrAt 2 cfg0.N = fun i : S128x128.Idx =>
    alpRow (m ((c.tc : Thread nD τ).loc main_arg0)) (m ((c.tc : Thread nD τ).loc main_arg1)) (i 0) := by
  refine (dats m 0 c).arrAt_eq_of_covers 2 _ (by decide +kernel) fun t hf y => ?_
  blk_simp
  rw [after0_2]
  frame_out
  idx_vars y
  pointwise [k0_pay3, k0_pay2, k0_pay1]
  have hr : (((View.whole main_v0_0).slice (win0_2.rect t)).emb (ix2 y0 y1) 0).val = t.val * 8 + y0.val := by
    blk_simp [idx t]
  generalize ((View.whole main_v0_0).slice (win0_2.rect t)).emb (ix2 y0 y1) 0 = r at hr ⊢
  have e0 := fun x : Fin 100000 => iblk0 m c t y0 x r hr
  have e1 := fun x : Fin 100000 => iblk1 m c t y0 x r hr
  simp only [e0, e1]
  rfl

/-- The second result array: `entRow` of its row in every lane. -/
theorem ent_arr (c : Dev nD) : (dats (F := Ideal) m 0 c).arrAt 3 cfg0.N = fun i : S128x128.Idx =>
    entRow (m ((c.tc : Thread nD τ).loc main_arg0)) (i 0) := by
  refine (dats m 0 c).arrAt_eq_of_covers 3 _ (by decide +kernel) fun t hf y => ?_
  blk_simp
  rw [after0_3]
  frame_out
  idx_vars y
  pointwise [k0_pay4, k0_pay2, k0_pay1]
  have hr : (((View.whole main_v0_1).slice (win0_3.rect t)).emb (ix2 y0 y1) 0).val = t.val * 8 + y0.val := by
    blk_simp [idx t]
  generalize ((View.whole main_v0_1).slice (win0_3.rect t)).emb (ix2 y0 y1) 0 = r at hr ⊢
  have e0 := fun x : Fin 100000 => iblk0 m c t y0 x r hr
  simp only [e0]
  rfl

end Cert.KernelIdeal.Row
-- ==== Proof.KerRun.lean ====
module

public import proofs.«01_k».proof.Proof.KerValue
public import Idealize.ShloMosaic.Lib.Tactic.CleanTypes

/-! The kernel's run: its two results, row by row, and its arguments unchanged. -/

@[expose] public section

set_option maxRecDepth 16384

noncomputable section

namespace Cert.KernelIdeal.Row
open Idealize.ShloMosaic Idealize.ShloMosaic.TcCoe Idealize.SL.Sem
open Cert.KernelIdeal Cert.KernelIdeal.Gen
variable (m : (ℓ : Loc nD τ sig) → Buf (Elt Ideal) ℓ)

/-- Every run of the kernel ends with its two results at `alpRow` and `entRow` of each row. -/
theorem run (g : Dev nD → PrngReg) : θ_run defs (onTc (τ := τ) (main (F := Ideal))) ⟨m, fun _ => 0, g⟩ (fun r => ∀ c : Dev nD,
      r.2.mem ((c.tc : Thread nD τ).loc main_v2) = (fun i : S128.Idx => alpRow (m ((c.tc : Thread nD τ).loc main_arg0)) (m ((c.tc : Thread nD τ).loc main_arg1)) (i 0))
      ∧ r.2.mem ((c.tc : Thread nD τ).loc main_v4) = (fun i : S128.Idx => entRow (m ((c.tc : Thread nD τ).loc main_arg0)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from (Gen.run_main m g)
  · unfold Pipeline.afterTail₀
    simp only [List.flatten_cons, List.flatten_nil, List.append_nil, hostOps1]
    after_results
    have h : Pipeline.withArrays (cfgs 0).spec c (V0 m c) (fun w => (dats m 0 c).arrAt w (cfgs 0).N) (Proc.tc.devRef main_v0_0)
        = (dats m 0 c).arrAt 2 cfg0.N := Pipeline.withArrays_arr (cfgs 0).spec launch0.win.arr_inj c (V0 m c) _ 2
    rw [h, alp_arr]
    clean_types
    funext i
    idx_vars i
    pointwise
  · unfold Pipeline.afterTail₀
    simp only [List.flatten_cons, List.flatten_nil, List.append_nil, hostOps1]
    after_results
    have h : Pipeline.withArrays (cfgs 0).spec c (V0 m c) (fun w => (dats m 0 c).arrAt w (cfgs 0).N) (Proc.tc.devRef main_v0_1)
        = (dats m 0 c).arrAt 3 cfg0.N := Pipeline.withArrays_arr (cfgs 0).spec launch0.win.arr_inj c (V0 m c) _ 3
    rw [h, ent_arr]
    clean_types
    funext i
    idx_vars i
    pointwise
end Cert.KernelIdeal.Row
-- ==== Proof.RefPlace.lean ====
module

public import proofs.«01_k».proof.Proof.RefRun
public import proofs.«01_k».proof.Proof.Rows
public import Idealize.ShloMosaic.PureOps.Ideal.Laws

/-! The place of the first largest output of a row, as the reference finds it: a fold over the row that keeps the larger of two
    pairs (value, place). -/

@[expose] public section

set_option maxRecDepth 16384

noncomputable section

open Idealize.ShloMosaic Idealize.ShloMosaic.TcCoe Idealize.SL.Sem

namespace Cert.ReferenceIdeal.Row
open Cert.ReferenceIdeal Cert.Rows

/-- −∞ as it is written. -/
theorem ofBits_bot : Ideal.ofBits .f32 0xFF800000#32 = ⊥ := by
  simp [Ideal.ofBits, Ideal.ieee]

/-! ## The place of the first largest output -/

/-- What is known of the pair (largest value so far, its place) after some entries of a row: it is the pair it began with or one
    of the entries', and no entry so far is larger or equal and earlier. -/
def Best (X : EReal × BitVec 32 → Prop) (L : List (EReal × BitVec 32)) (p : EReal × BitVec 32) : Prop :=
  (p = (⊥, 0#32) ∨ X p) ∧ ∀ q ∈ L, q.1 < p.1 ∨ (q.1 = p.1 ∧ p.2.toInt ≤ q.2.toInt)

/-- One step keeps the larger of two pairs, of two equal values the one whose place is the smaller. -/
theorem reducer_eq (p q : EReal × BitVec 32) :
    (reducer_argmax_f32_i32 (F := Ideal) p q : EReal × BitVec 32) = if q.1 < p.1 ∨ (p.1 = q.1 ∧ p.2.toInt < q.2.toInt) then p else q := by
  obtain ⟨p1, p2⟩ := p
  obtain ⟨q1, q2⟩ := q
  unfold reducer_argmax_f32_i32
  simp only [Ideal.cmpf_def, Ideal.cmp, IntOp.cmpi, IntOp.ori, IntOp.andi, Scalar.select, BitVec.slt_eq_decide]
  by_cases h1 : q1 < p1 <;> by_cases h2 : p1 = q1 <;> by_cases h3 : p2.toInt < q2.toInt <;> simp [h1, h2, h3]

/-- `Best` is kept along the whole fold. -/
theorem best_foldl (X : EReal × BitVec 32 → Prop) : ∀ (L' L : List (EReal × BitVec 32)) (p : EReal × BitVec 32),
    (∀ q ∈ L', X q) → Best X L p → Best X (L ++ L') (L'.foldl (reducer_argmax_f32_i32 (F := Ideal)) p)
  | [], L, p, _, h => by simpa using h
  | q :: L', L, p, hX, h => by
    have : Best X (L ++ [q]) (reducer_argmax_f32_i32 (F := Ideal) p q) := by
      rw [reducer_eq]
      split
      · rename_i hc
        refine ⟨h.1, fun q' hq' => ?_⟩
        rcases List.mem_append.1 hq' with hq' | hq'
        · exact h.2 q' hq'
        · obtain rfl := List.mem_singleton.1 hq'
          rcases hc with hc | hc
          · exact .inl hc
          · exact .inr ⟨hc.1.symm, hc.2.le⟩
      · rename_i hc
        push Not at hc
        refine ⟨.inr (hX q (List.mem_cons_self ..)), fun q' hq' => ?_⟩
        rcases List.mem_append.1 hq' with hq' | hq'
        · rcases h.2 q' hq' with h' | h'
          · exact .inl (lt_of_lt_of_le h' hc.1)
          · rcases lt_or_eq_of_le hc.1 with h'' | h''
            · exact .inl (h'.1 ▸ h'')
            · exact .inr ⟨h'.1.trans h'', (hc.2 h'').trans h'.2⟩
        · obtain rfl := List.mem_singleton.1 hq'
          exact .inr ⟨rfl, le_rfl⟩
    have := best_foldl X L' (L ++ [q]) _ (fun q' hq' => hX q' (List.mem_cons_of_mem _ hq')) this
    simpa using this

/-- The pairs of a row: a value of the row and its place. -/
theorem mem_row {n m : ℕ} {t : Shape} (o : (⟨2, ![n, m]⟩ : Shape).Idx → EReal) (h : (⟨2, ![n, m]⟩ : Shape).ReducesTo [1] t) (j : t.Idx)
    (r : Fin n) (hr : (j ⟨0, h.lt_r2_a1_0⟩).val = r.val) (q : EReal × BitVec 32) :
    q ∈ Host.argReduceFiber o (iotaInDim ⟨2, ![n, m]⟩ 32 1) h j ↔ ∃ k : Fin m, q = (o (ix2 r k), BitVec.ofNat 32 ↑k) := by
  unfold Host.argReduceFiber
  rw [List.mem_map]
  constructor
  · rintro ⟨p, hp, rfl⟩
    have hd := of_decide_eq_true (List.mem_filter.1 hp).2
    obtain ⟨k, hk⟩ := (h.fiber_r2_a1 j _).1 hd
    rw [← hk, show (⟨(j ⟨0, h.lt_r2_a1_0⟩).val, Shape.coordLt (j ⟨0, h.lt_r2_a1_0⟩) h.size_r2_a1_0⟩ : Fin n) = r from Fin.ext hr]
    exact ⟨k, rfl⟩
  · rintro ⟨k, rfl⟩
    refine ⟨(⟨2, ![n, m]⟩ : Shape).rowMajor (ix2 r k), List.mem_filter.2 ⟨List.mem_finRange _, decide_eq_true ?_⟩, ?_⟩
    · rw [Equiv.symm_apply_apply]
      refine (h.fiber_r2_a1 j _).2 ⟨k, ?_⟩
      rw [show (⟨(j ⟨0, h.lt_r2_a1_0⟩).val, Shape.coordLt (j ⟨0, h.lt_r2_a1_0⟩) h.size_r2_a1_0⟩ : Fin n) = r from Fin.ext hr]
    · rw [Equiv.symm_apply_apply]; rfl

/-- Folding over a row from (−∞, 0) ends at the place of the row's first largest value. -/
theorem foldl_place {m : ℕ} (hm : m ≤ 2 ^ 30) (f : Fin m → EReal) (a : Fin m) (ha : FirstMax f a) (L : List (EReal × BitVec 32))
    (hmem : ∀ q : EReal × BitVec 32, q ∈ L ↔ ∃ k : Fin m, q = (f k, BitVec.ofNat 32 ↑k)) :
    (L.foldl (reducer_argmax_f32_i32 (F := Ideal)) ((⊥ : EReal), 0#32)).2 = BitVec.ofNat 32 ↑a := by
  have hB := best_foldl (fun q => ∃ k : Fin m, q = (f k, BitVec.ofNat 32 ↑k)) L [] ((⊥ : EReal), 0#32)
    (fun q hq => (hmem q).1 hq) ⟨.inl rfl, by simp⟩
  rw [List.nil_append] at hB
  generalize L.foldl (reducer_argmax_f32_i32 (F := Ideal)) ((⊥ : EReal), 0#32) = p at hB ⊢
  obtain ⟨h1, h2⟩ := hB
  have hA := h2 _ ((hmem _).2 ⟨a, rfl⟩)
  have hAi : (BitVec.ofNat 32 (↑a : ℕ)).toInt = (a : ℕ) := toInt_ofNat (by have := a.2; omega)
  have fin : ∀ k : Fin m, p = (f k, BitVec.ofNat 32 ↑k) → p.2 = BitVec.ofNat 32 ↑a := by
    intro k hk
    have hki : (BitVec.ofNat 32 (↑k : ℕ)).toInt = (k : ℕ) := toInt_ofNat (by have := k.2; omega)
    rw [hk] at hA
    have : k = a := by
      rcases hA with hA | hA
      · exact absurd hA (not_lt.2 (ha.1 k))
      · dsimp only at hA
        rw [hki, hAi] at hA
        have h3 : k ≤ a := by exact_mod_cast hA.2
        rcases lt_or_eq_of_le h3 with h | h
        · exact absurd (ha.2 k h) (by rw [hA.1]; exact lt_irrefl _)
        · exact h
    rw [hk, this]
  rcases h1 with h1 | ⟨k, hk⟩
  · refine fin ⟨0, a.pos⟩ ?_
    have h0 := h2 _ ((hmem _).2 ⟨⟨0, a.pos⟩, rfl⟩)
    rw [h1] at h0 ⊢
    rcases h0 with h0 | h0
    · exact absurd h0 not_lt_bot
    · exact Prod.ext h0.1.symm rfl
  · exact fin k hk

/-- So the host's search of a row for the place of its largest value, begun from (−∞, 0), finds that of the first. -/
theorem argReduce_place {n m : ℕ} {t u : Shape} (hm : m ≤ 2 ^ 30) (o : FVec Ideal ⟨2, ![n, m]⟩ .f32) (i : FVec Ideal u .f32) (z : IVec u 32)
    (h : (⟨2, ![n, m]⟩ : Shape).ReducesTo [1] t) (hu : 0 < u.numel) (j : t.Idx) (r : Fin n) (hr : (j ⟨0, h.lt_r2_a1_0⟩).val = r.val)
    (hi : i (Shape.Idx.first hu) = (⊥ : EReal)) (hz : z (Shape.Idx.first hu) = 0#32) (a : Fin m)
    (ha : FirstMax (fun k : Fin m => (o (ix2 r k) : EReal)) a) :
    second (Host.argReduce reducer_argmax_f32_i32 o (iotaInDim ⟨2, ![n, m]⟩ 32 1) i z h hu) j = BitVec.ofNat 32 ↑a := by
  show (Host.argReduce reducer_argmax_f32_i32 o (iotaInDim ⟨2, ![n, m]⟩ 32 1) i z h hu j).2 = BitVec.ofNat 32 ↑a
  rw [Ideal.argReduce_eq_reduce2, Host.reduce2_eq_foldl_fiber, hi, hz]
  exact foldl_place hm _ a ha _ (mem_row o h j r hr)

/-- The place the reference finds in row `r` is that of the row's first largest output. -/
theorem place_apply (o : FVec Ideal S128x100000 .f32) (r : Fin 128) (a : Fin 100000)
    (ha : FirstMax (fun k : Fin 100000 => (o (ix2 r k) : EReal)) a) : place o (ix1 r) = BitVec.ofNat 32 ↑a :=
  argReduce_place (by norm_num) o (constant S_ .f32 0xFF800000#32) (constantI S_ 32 0#32) Facts₀.reducesTo_S128x100000_S128_d1 Facts₀.h_S_
    (ix1 r) r rfl ofBits_bot rfl a ha

end Cert.ReferenceIdeal.Row
-- ==== Proof.RefTake.lean ====
module

public import proofs.«01_k».proof.Proof.RefRun
public import proofs.«01_k».proof.Proof.Rows
public import Idealize.ShloMosaic.PureOps.Ideal.Laws

/-! The reference's taking of one entry of every row at a place given as a word. -/

@[expose] public section

set_option maxRecDepth 16384

noncomputable section

open Idealize.ShloMosaic Idealize.ShloMosaic.TcCoe Idealize.SL.Sem

namespace Cert.ReferenceIdeal.Row
open Cert.ReferenceIdeal Cert.Rows

/-! ## Taking the entry at that place -/

/-- A word that is not negative is not counted from the end, -/
theorem select_nonneg (w : BitVec 32) (h : 0 ≤ w.toInt) :
    Scalar.select (IntOp.cmpi CmpIPredicate.slt w 0#32) (IntOp.addi w 100000#32) w = w := by
  have h2 : IntOp.cmpi CmpIPredicate.slt w 0#32 = 0#1 := by
    unfold IntOp.cmpi
    rw [BitVec.slt_eq_decide, decide_eq_false (by rw [BitVec.toInt_zero]; omega)]
    rfl
  rw [h2]; rfl

/-- and one from 0 to 99999 passes the test of the bounds. -/
theorem bounds_pass (w : BitVec 32) (h : 0 ≤ w.toInt) (h' : w.toInt ≤ 99999) :
    IntOp.andi (IntOp.cmpi .sge w 0#32) (IntOp.cmpi .sle w 99999#32) = 1#1 := by
  have h1 : IntOp.cmpi .sge w 0#32 = 1#1 := by
    show BitVec.ofBool (BitVec.sle 0#32 w) = 1#1
    rw [BitVec.sle_eq_decide, decide_eq_true (by rw [BitVec.toInt_zero]; exact h)]
    rfl
  have h2 : IntOp.cmpi .sle w 99999#32 = 1#1 := by
    show BitVec.ofBool (BitVec.sle w 99999#32) = 1#1
    rw [BitVec.sle_eq_decide, decide_eq_true (by rw [show (99999#32).toInt = 99999 from by decide]; exact h')]
    rfl
  rw [h1, h2]
  rfl

/-- A place in the row is not wrapped. -/
theorem wrapped_apply (p : IVec S128 32) (r : Fin 128) (a : Fin 100000)
    (ha : p (ix1 r) = BitVec.ofNat 32 ↑a) : wrapped (col p) (ix3 r 0 0) = BitVec.ofNat 32 ↑a := by
  have hAi : (BitVec.ofNat 32 (↑a : ℕ)).toInt = (a : ℕ) := toInt_ofNat (lt_trans a.2 (by norm_num))
  have h : wrapped (col p) (ix3 r 0 0) = Scalar.select (IntOp.cmpi CmpIPredicate.slt (p (ix1 r)) 0#32)
      (IntOp.addi (p (ix1 r)) 100000#32) (p (ix1 r)) := by
    pointwise [wrapped, col]
  rw [h, ha]
  exact select_nonneg _ (by rw [hAi]; exact Int.natCast_nonneg _)

/-- A place in the row is found to lie in it. -/
theorem inside_apply (w : IVec S128x1x1 32) (r : Fin 128) (a : Fin 100000)
    (ha : w (ix3 r 0 0) = BitVec.ofNat 32 ↑a) : inside w (ix2 r 0) = 1#1 := by
  have hAi : (BitVec.ofNat 32 (↑a : ℕ)).toInt = (a : ℕ) := toInt_ofNat (lt_trans a.2 (by norm_num))
  have h : inside w (ix2 r 0) = Finset.fold IntOp.andi (1#1) (fun x : Fin 1 =>
      IntOp.andi (IntOp.cmpi .sge (w (ix3 r 0 x)) 0#32) (IntOp.cmpi .sle (w (ix3 r 0 x)) 99999#32)) Finset.univ := by
    pointwise [inside]
  have h1 : ∀ x : Fin 1, IntOp.andi (IntOp.cmpi .sge (w (ix3 r 0 x)) 0#32) (IntOp.cmpi .sle (w (ix3 r 0 x)) 99999#32) = 1#1 := by
    intro x
    rw [Subsingleton.elim x 0, ha]
    exact bounds_pass _ (by rw [hAi]; exact Int.natCast_nonneg _) (by rw [hAi]; have := a.2; omega)
  rw [h, show (fun x : Fin 1 => IntOp.andi (IntOp.cmpi .sge (w (ix3 r 0 x)) 0#32) (IntOp.cmpi .sle (w (ix3 r 0 x)) 99999#32))
    = fun _ => 1#1 from funext h1]
  rfl

/-- Taking at the place `a` in row `r` reads the entry at `(r, a)`. -/
theorem gather_apply (x : FVec Ideal S128x100000 .f32) (w : IVec S128x1x1 32) (r : Fin 128) (a : Fin 100000)
    (ha : w (ix3 r 0 0) = BitVec.ofNat 32 ↑a) :
    Host.gather gather_S128x100000_S128x1x1_S128x1_n_1_0_0_1_2_11 x w (ix2 r 0) = x (ix2 r a) := by
  unfold Host.gather
  congr 1
  funext b
  refine Fin.ext ?_
  set d := gather_S128x100000_S128x1x1_S128x1_n_1_0_0_1_2_11 with hd
  show d.start (ix2 r 0) w b + d.batchCoord (ix2 r 0) b + d.offCoord (ix2 r 0) b = _
  have h01 : b = 0 ∨ b = 1 := by
    match b with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => by simp [hd, gather_S128x100000_S128x1x1_S128x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r 0) ⟨List.idxOf (1 : Fin 2) d.startIndexMap,
        List.idxOf_lt_length_iff.2 (List.mem_singleton.mpr rfl)⟩ = ix3 r 0 0 := by
      funext c; refine Fin.ext ?_
      match c with
      | ⟨0, _⟩ => rfl
      | ⟨1, _⟩ => rfl
      | ⟨2, _⟩ => rfl
    rw [hsi, ha, toInt_ofNat (by have := a.2; omega)]
    show min (Int.toNat (a : ℕ)) 99999 = a
    have := a.2
    simp; omega

end Cert.ReferenceIdeal.Row
-- ==== Proof.RefValue.lean ====
module

public import proofs.«01_k».proof.Proof.RefPlace
public import proofs.«01_k».proof.Proof.RefTake
public import proofs.«01_k».proof.Proof.Rows
public import Idealize.ShloMosaic.PureOps.Ideal.Laws

/-! The reference's two results at a row, in the words of `Rows`. -/

@[expose] public section

set_option maxRecDepth 16384

noncomputable section

open Idealize.ShloMosaic Idealize.ShloMosaic.TcCoe Idealize.SL.Sem

namespace Cert.ReferenceIdeal.Row
open Cert.ReferenceIdeal Cert.Rows

/-- An entry's share: the entry over its row's sum. -/
theorem share_apply (l : FVec Ideal S128x100000 .f32) (r : Fin 128) (k : Fin 100000) :
    share l (ix2 r k) = Ideal.div (l (ix2 r k)) (∑ x : Fin 100000, l (ix2 r x)) := by
  pointwise [share]

/-- The second result at row `r`: minus the sum of `p · log p` over the row's shares. -/
theorem ent_apply (l : FVec Ideal S128x100000 .f32) (r : Fin 128) :
    ent l (ix1 r) = -(∑ k : Fin 100000, Ideal.div (l (ix2 r k)) (∑ x : Fin 100000, l (ix2 r x))
      * Ideal.log (Ideal.div (l (ix2 r k)) (∑ x : Fin 100000, l (ix2 r x)))) := by
  pointwise [ent, share]

/-- The first result at row `r` over the places `w`: the logarithm of the share taken there, if the place lies in the row. -/
theorem alp_read (l o : FVec Ideal S128x100000 .f32) (r : Fin 128) (w : IVec S128x1x1 32) (hw : wrapped (col (place o)) = w) :
    alp l o (ix1 r) = Scalar.select (inside w (ix2 r 0))
      (Host.gather gather_S128x100000_S128x1x1_S128x1_n_1_0_0_1_2_11 (Host.log (share l)) w (ix2 r 0)) (Ideal.ofBits .f32 0x7FC00000#32) := by
  unfold alp
  rw [hw]
  generalize inside w = b
  generalize share l = s
  pointwise

/-- The first result at row `r`: the logarithm of the share at the place of the row's first largest output. -/
theorem alp_apply (l o : FVec Ideal S128x100000 .f32) (r : Fin 128) (a : Fin 100000)
    (ha : FirstMax (fun k : Fin 100000 => (o (ix2 r k) : EReal)) a) :
    alp l o (ix1 r) = Ideal.log (Ideal.div (l (ix2 r a)) (∑ x : Fin 100000, l (ix2 r x))) := by
  have hp := wrapped_apply (place o) r a (place_apply o r a ha)
  generalize hw : wrapped (col (place o)) = w at hp
  rw [alp_read l o r w hw, inside_apply w r a hp, gather_apply _ w r a hp]
  have h1 : ∀ x y : EReal, Scalar.select 1#1 x y = x := fun x y => rfl
  rw [h1, ← share_apply l r a]
  generalize share l = s
  rfl

end Cert.ReferenceIdeal.Row
-- ==== Proof.Agree.lean ====
module

public import proofs.«01_k».proof.Proof.KerValue
public import proofs.«01_k».proof.Proof.RefValue

/-! On a row of finite logits none of which is negative the kernel's two results are the reference's. -/

@[expose] public section

set_option maxRecDepth 16384

noncomputable section

namespace Cert.Agree
open Idealize.ShloMosaic Idealize.ShloMosaic.TcCoe Cert.Rows
open Cert.KernelIdeal (S128x100000 S128)

/-- The word the kernel finds is the place of the row's first largest output. -/
theorem spot_eq (o : FVec Ideal S128x100000 .f32) (r : Fin 128) (a : Fin 100000)
    (ha : FirstMax (fun k : Fin 100000 => (o (ix2 r k) : EReal)) a) : KernelIdeal.Row.spot o r = BitVec.ofNat 32 ↑a := by
  unfold KernelIdeal.Row.spot
  rw [show Ideal.ofBits .f32 4286578688#32 = ⊥ from ReferenceIdeal.Row.ofBits_bot, fold_max ha]
  exact fold_minsi_firstMax (by norm_num) ha

/-- The kernel's first result at row `r`. -/
theorem alpRow_eq (l o : FVec Ideal S128x100000 .f32) (r : Fin 128) (a : Fin 100000)
    (ha : FirstMax (fun k : Fin 100000 => (o (ix2 r k) : EReal)) a) :
    KernelIdeal.Row.alpRow l o r = Ideal.log (l (ix2 r a)) - Ideal.log (∑ x : Fin 100000, l (ix2 r x)) := by
  unfold KernelIdeal.Row.alpRow
  rw [spot_eq o r a ha, sum_select (by norm_num) (fun x : Fin 100000 => l (ix2 r x)) a]

/-- The first results agree. -/
theorem alp_eq (l o : FVec Ideal S128x100000 .f32) (hl : ∀ i, (0 : EReal) ≤ l i ∧ l i < (⊤ : EReal)) :
    ReferenceIdeal.Row.alp l o = fun i : S128.Idx => KernelIdeal.Row.alpRow l o (i 0) := by
  funext i
  idx_vars i
  obtain ⟨a, ha⟩ := exists_firstMax (n := 100000) (by norm_num) (fun k : Fin 100000 => (o (ix2 i0 k) : EReal))
  refine (ReferenceIdeal.Row.alp_apply l o i0 a ha).trans (Eq.trans ?_ (alpRow_eq l o i0 a ha).symm)
  exact log_share (l := fun x : Fin 100000 => (l (ix2 i0 x) : EReal)) (fun k => exists_real (hl _).1 (hl _).2) a

/-- The second results agree. -/
theorem ent_eq (l : FVec Ideal S128x100000 .f32) (hl : ∀ i, (0 : EReal) ≤ l i ∧ l i < (⊤ : EReal)) :
    ReferenceIdeal.Row.ent l = fun i : S128.Idx => KernelIdeal.Row.entRow l (i 0) := by
  funext i
  idx_vars i
  refine (ReferenceIdeal.Row.ent_apply l i0).trans ?_
  exact entropy (l := fun x : Fin 100000 => (l (ix2 i0 x) : EReal)) (by norm_num) (fun k => exists_real (hl _).1 (hl _).2)

end Cert.Agree
-- ==== Proof.Pre.lean ====
module

public import proofs.«01_k».proof.Defs
public import proofs.«01_k».proof.Proof.Gen.Pre_nonnegative_logits
public import proofs.«01_k».proof.Proof.Rows
public import Idealize.ShloMosaic.Lib.Pointwise
public import Idealize.ShloMosaic.PureOps.Ideal.Laws

/-! What the precondition says: every logit is a real number and none is negative. -/

@[expose] public section

set_option maxRecDepth 16384

noncomputable section

namespace Cert.Pre_nonnegative_logits
open Idealize.ShloMosaic Idealize.ShloMosaic.TcCoe Idealize.SL.Sem Cert.Rows

/-- Zero as it is written. -/
theorem ofBits_zero : Ideal.ofBits .f32 0#32 = 0 := by
  simp [Ideal.ofBits, Ideal.ieee]

/-- +∞ as it is written. -/
theorem ofBits_top : Ideal.ofBits .f32 0x7F800000#32 = ⊤ := by
  simp [Ideal.ofBits, Ideal.ieee]

/-- If a fold by `and` over bits is 1, each of them is. -/
theorem fold_and {ι : Type} [DecidableEq ι] (f : ι → BitVec 1) (b : BitVec 1) (s : Finset ι) :
    Finset.fold IntOp.andi b f s = 1#1 → ∀ i ∈ s, f i = 1#1 := by
  induction s using Finset.induction_on with
  | empty => intro _ i hi; simp at hi
  | insert a s ha ih =>
    intro h i hi
    rw [Finset.fold_insert ha] at h
    have h1 : ∀ p q : BitVec 1, IntOp.andi p q = 1#1 → p = 1#1 ∧ q = 1#1 := by decide
    obtain ⟨h2, h3⟩ := h1 _ _ h
    rcases Finset.mem_insert.1 hi with rfl | hi
    · exact h2
    · exact ih h3 i hi

/-- Under the precondition every logit is at least 0 and less than +∞. -/
theorem nonneg (l o : FVec Ideal S128x100000 .f32) (h : fn (F := Ideal) l o = fun _ => 1#1) (i : S128x100000.Idx) :
    (0 : EReal) ≤ l i ∧ l i < (⊤ : EReal) := by
  have h1 := congrFun h (fun a => a.elim0)
  unfold fn at h1
  dsimp only at h1
  rw [Host.reduce_eq_fold] at h1
  have h2 := fold_and _ _ _ h1 i (Finset.mem_filter.2 ⟨Finset.mem_univ _, funext fun a => a.elim0⟩)
  have h3 : IntOp.andi (Ideal.cmp .oge (l i) (Ideal.ofBits .f32 0#32)) (Ideal.cmp .olt (l i) (Ideal.ofBits .f32 0x7F800000#32)) = 1#1 := h2
  rw [ofBits_zero, ofBits_top] at h3
  have h4 : ∀ p q : BitVec 1, IntOp.andi p q = 1#1 → p = 1#1 ∧ q = 1#1 := by decide
  have h5 := h4 _ _ h3
  have h6 : ∀ p : Prop, ∀ _ : Decidable p, BitVec.ofBool (decide p) = 1#1 → p := by
    intro p _ h
    by_contra hp
    rw [decide_eq_false hp] at h
    exact absurd h (by decide)
  exact ⟨h6 _ _ h5.1, h6 _ _ h5.2⟩

end Cert.Pre_nonnegative_logits
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonnegative_logits
public import proofs.«01_k».proof.Proof.RefRun
public import proofs.«01_k».proof.Proof.KerRun
public import proofs.«01_k».proof.Proof.Agree
public import proofs.«01_k».proof.Proof.Pre
public import Idealize.ShloMosaic.Adequacy
public import Idealize.ShloMosaic.Init

@[expose] public section

noncomputable section

namespace Cert.Proof

open Idealize.ShloMosaic Idealize.SL.Sem Cert.Kernel

/-- On finite logits none of which is negative the kernel's two results are the reference's. -/
theorem algebraic [Cert.KernelIdeal.Facts] [Cert.ReferenceIdeal.Facts] [Cert.Pre_nonnegative_logits.Facts] :
    Cert.algebraic_KernelIdeal_ReferenceIdeal_pre_nonnegative_logits := by
  intro m g m' g' hpre hagree
  have hl := fun c => Cert.Pre_nonnegative_logits.nonneg _ _ (hpre c)
  refine ⟨_, _, Cert.KernelIdeal.Row.run m g, ?_⟩
  refine θ_run_mono (Cert.ReferenceIdeal.Row.run m' g') fun r h c => ?_
  obtain ⟨h1, h2, h3, h4⟩ := h c
  rw [(hagree c).1, (hagree c).2] at h1
  rw [(hagree c).1] at h2
  exact ⟨h1.trans (Cert.Agree.alp_eq _ _ (hl c)), h2.trans (Cert.Agree.ent_eq _ (hl c)), h3, h4⟩

/-- The claims together. -/
theorem claim : Cert.Claim := ⟨Cert.Kernel.Gen.facts, Cert.KernelIdeal.Gen.facts, Cert.ReferenceIdeal.Gen.facts, Cert.Pre_nonnegative_logits.Gen.facts,
  fun m g _ => Cert.Kernel.Gen.frame m g, fun m g _ => Cert.KernelIdeal.Gen.frame m g, fun m g _ => Cert.KernelIdeal.Gen.frame m g,
  fun m g _ => Cert.ReferenceIdeal.Row.quiescent m g, fun m g _ => Cert.ReferenceIdeal.Row.quiescent m g, trivial, algebraic⟩

end Cert.Proof

end
